-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_int_dot_exact [hKernelIdeal : Cert.KernelIdeal.Facts] [hReferenceIdeal : Cert.ReferenceIdeal.Facts] [hOn_int_dot_exact : Cert.On_int_dot_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![10000]⟩ : Shape).Idx, (Cert.On_int_dot_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![10000]⟩ : Shape).Idx, (Cert.On_int_dot_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v41) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_int_dot_exact : Cert.On_int_dot_exact.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_int_dot_exact (hKernelIdeal := hKernelIdeal) (hReferenceIdeal := hReferenceIdeal) (hOn_int_dot_exact := hOn_int_dot_exact)
-- ==== On_int_dot_exact.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000 : Shape := ⟨1, ![10000]⟩

class Facts : Prop where
  reducesTo_S10000x128_S128_d0 : S10000x128.ReducesTo [0] S128
  h_S_ : 0 < S_.numel
  bcast_S_S10000x10000 : S_.BroadcastsInDim S10000x10000 (![] : Fin 0 → Fin S10000x10000.rank)
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  bcast_S_S10000 : S_.BroadcastsInDim S10000 (![] : Fin 0 → Fin S10000.rank)
  dot_S10000x10000_S10000x128_S10000x128_1_0_0_1_n_n_wf : DotDims.WF S10000x10000 S10000x128 S10000x128 [1] [0] [0] [1] [] []

variable [Facts]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_round {F : FTy → Type} [FloatOps F] (arg0 : FVec F S10000x128 .f32) : FVec F S10000x128 .f32 :=
  let v0 : FVec F S10000x128 .f32 := Host.roundeven arg0
  v0

def fn_part1 {F : FTy → Type} [FloatOps F] (main_v7 : IVec S10000x10000 32) (main_v16 : IVec S10000x128 32) (main_v17 : IVec S10000x10000 32) : IVec S10000 1 :=
  let main_v18 : IVec S10000x10000 32 := maxsi main_v7 main_v17
  let main_c_4 : IVec S_ 32 := constantI S_ 32 127#32
  let main_v19 : IVec S10000x10000 32 := broadcastInDim S10000x10000 ![] bcast_S_S10000x10000 main_c_4
  let main_v20 : IVec S10000x10000 32 := minsi main_v18 main_v19
  let main_v21 : FVec F S10000x10000 .f32 := sitofp .f32 main_v20
  let main_c_5 : IVec S_ 32 := constantI S_ 32 4294967168#32
  let main_v22 : IVec S10000x128 32 := broadcastInDim S10000x128 ![] bcast_S_S10000x128 main_c_5
  let main_v23 : IVec S10000x128 32 := maxsi main_v16 main_v22
  let main_c_6 : IVec S_ 32 := constantI S_ 32 127#32
  let main_v24 : IVec S10000x128 32 := broadcastInDim S10000x128 ![] bcast_S_S10000x128 main_c_6
  let main_v25 : IVec S10000x128 32 := minsi main_v23 main_v24
  let main_v26 : FVec F S10000x128 .f32 := sitofp .f32 main_v25
  let main_v27 : FVec F S10000x10000 .f32 := Host.absf main_v21
  let main_v28 : FVec F S10000x128 .f32 := Host.absf main_v26
  let main_v29 : FVec F S10000x128 .f32 := (fun l r => Host.dotGeneral dot_S10000x10000_S10000x128_S10000x128_1_0_0_1_n_n none l r) main_v27 main_v28
  let main_cst_7 : FVec F S_ .f32 := constant S_ .f32 0xFF800000#32
  let main_v30 : FVec F S10000 .f32 := (fun x v => Host.reduce FloatOps.maximumf x v reducesTo_S10000x128_S10000_d1 h_S_) main_v29 main_cst_7
  let main_cst_8 : FVec F S_ .f32 := constant S_ .f32 0x4C800000#32
  let main_v31 : FVec F S10000 .f32 := broadcastInDim S10000 ![] bcast_S_S10000 main_cst_8
  let main_v32 : IVec S10000 1 := cmpf .ole main_v30 main_v31
  main_v32

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S_ .f32) : IVec S10000 1 :=
  let main_v0 : FVec F S10000x128 .f32 := (fun l r => Host.dotGeneral dot_S10000x10000_S10000x128_S10000x128_1_0_0_1_n_n none l r) main_arg1 main_arg0
  let main_v1 : FVec F S10000x128 .f32 := Host.absf main_v0
  let main_cst : FVec F S_ .f32 := constant S_ .f32 0xFF800000#32
  let main_v2 : FVec F S128 .f32 := (fun x v => Host.reduce FloatOps.maximumf x v reducesTo_S10000x128_S128_d0 h_S_) main_v1 main_cst
  let main_cst_0 : FVec F S_ .f32 := constant S_ .f32 0x42FE0000#32
  let main_v3 : FVec F S10000x10000 .f32 := broadcastInDim S10000x10000 ![] bcast_S_S10000x10000 main_cst_0
  let main_v4 : FVec F S10000x10000 .f32 := mulf main_arg1 main_v3
  let main_cst_1 : FVec F S_ .f32 := constant S_ .f32 0x3F000000#32
  let main_v5 : FVec F S10000x10000 .f32 := broadcastInDim S10000x10000 ![] bcast_S_S10000x10000 main_cst_1
  let main_v6 : FVec F S10000x10000 .f32 := addf main_v4 main_v5
  let main_v7 : IVec S10000x10000 32 := fptosi 32 main_v6
  let main_cst_2 : FVec F S_ .f32 := constant S_ .f32 0x0DA24260#32
  let main_v8 : FVec F S128 .f32 := broadcastInDim S128 ![] bcast_S_S128 main_cst_2
  let main_v9 : FVec F S128 .f32 := maximumf main_v2 main_v8
  let main_cst_3 : FVec F S_ .f32 := constant S_ .f32 0x42FE0000#32
  let main_v10 : FVec F S128 .f32 := broadcastInDim S128 ![] bcast_S_S128 main_cst_3
  let main_v11 : FVec F S128 .f32 := Host.divf main_v10 main_v9
  let main_v12 : FVec F S1x128 .f32 := broadcastInDim S1x128 ![1] bcast_S128_S1x128_1 main_v11
  let main_v13 : FVec F S10000x128 .f32 := broadcastInDim S10000x128 ![0, 1] bcast_S1x128_S10000x128_0_1 main_v12
  let main_v14 : FVec F S10000x128 .f32 := mulf main_v0 main_v13
  let main_v15 : FVec F S10000x128 .f32 := fn_round (F := F) main_v14
  let main_v16 : IVec S10000x128 32 := fptosi 32 main_v15
  let main_c : IVec S_ 32 := constantI S_ 32 4294967168#32
  let main_v17 : IVec S10000x10000 32 := broadcastInDim S10000x10000 ![] bcast_S_S10000x10000 main_c
  fn_part1 (F := F) main_v7 main_v16 main_v17
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S25x400x10000 : Shape := ⟨3, ![25, 400, 10000]⟩
abbrev S400x10000 : Shape := ⟨2, ![400, 10000]⟩
abbrev S400x128 : Shape := ⟨2, ![400, 128]⟩
abbrev S1x400x10000 : Shape := ⟨3, ![1, 400, 10000]⟩
abbrev S1x128 : Shape := ⟨2, ![1, 128]⟩
abbrev S1x1 : Shape := ⟨2, ![1, 1]⟩
abbrev S25x1x400 : Shape := ⟨3, ![25, 1, 400]⟩
abbrev S1x1x400 : Shape := ⟨3, ![1, 1, 400]⟩
abbrev S400 : Shape := ⟨1, ![400]⟩
abbrev S10000 : Shape := ⟨1, ![10000]⟩

abbrev nBuf : Space → Nat
  | .hbm => 15
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S25x400x10000, .i8⟩
  | .hbm, ⟨8, _⟩ => ⟨S10000x128, .i8⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S25x1x400, .f32⟩
  | .hbm, ⟨14, _⟩ => ⟨S10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S1x400x10000, .i8⟩
  | .local _ .vmem, ⟨6, _⟩ => ⟨S1x400x10000, .i8⟩
  | .local _ .vmem, ⟨7, _⟩ => ⟨S10000x128, .f32⟩
  | .local _ .vmem, ⟨8, _⟩ => ⟨S10000x128, .i8⟩
  | .local _ .vmem, ⟨9, _⟩ => ⟨S1x128, .f32⟩
  | .local _ .vmem, ⟨10, _⟩ => ⟨S1x400x10000, .i8⟩
  | .local _ .vmem, ⟨11, _⟩ => ⟨S1x400x10000, .i8⟩
  | .local _ .vmem, ⟨12, _⟩ => ⟨S10000x128, .i8⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x1, .f32⟩
  | .local _ .vmem, ⟨18, _⟩ => ⟨S1x1x400, .f32⟩
  | .local _ .vmem, ⟨19, _⟩ => ⟨S1x1x400, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x400x10000 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x1x400 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000 : Shape := ⟨1, ![10000]⟩

abbrev nBuf : Space → Nat
  | .hbm => 60
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S10000x10000, .f32⟩
  | .hbm, ⟨12, _⟩ => ⟨S10000x10000, .f32⟩
  | .hbm, ⟨13, _⟩ => ⟨S_, .f32⟩
  | .hbm, ⟨14, _⟩ => ⟨S10000x10000, .f32⟩
  | .hbm, ⟨15, _⟩ => ⟨S10000x10000, .f32⟩
  | .hbm, ⟨16, _⟩ => ⟨S10000x10000, .i32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .i32⟩
  | .hbm, ⟨28, _⟩ => ⟨S_, .i32⟩
  | .hbm, ⟨29, _⟩ => ⟨S10000x10000, .i32⟩
  | .hbm, ⟨30, _⟩ => ⟨S10000x10000, .i32⟩
  | .hbm, ⟨31, _⟩ => ⟨S_, .i32⟩
  | .hbm, ⟨32, _⟩ => ⟨S10000x10000, .i32⟩
  | .hbm, ⟨33, _⟩ => ⟨S10000x10000, .i32⟩
  | .hbm, ⟨34, _⟩ => ⟨S10000x10000, .f32⟩
  | .hbm, ⟨35, _⟩ => ⟨S_, .i32⟩
  | .hbm, ⟨36, _⟩ => ⟨S10000x128, .i32⟩
  | .hbm, ⟨37, _⟩ => ⟨S10000x128, .i32⟩
  | .hbm, ⟨38, _⟩ => ⟨S_, .i32⟩
  | .hbm, ⟨39, _⟩ => ⟨S10000x128, .i32⟩
  | .hbm, ⟨40, _⟩ => ⟨S10000x128, .i32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S128x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S10000, .f32⟩
  | .hbm, ⟨58, _⟩ => ⟨S10000, .f32⟩
  | .hbm, ⟨59, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v5e

variable {F : FTy → Type} [FloatOps F]
-- ==== Proof.Run.lean ====
/- The kernel program's run with its RESULT read: the result array ends at the last segment boundary's contents, the
   arguments as launched. The launch is set up as the generated frame sets it up; only what is read at the end differs. -/
module

public import proofs.«01_k».proof.Proof.Gen.KernelIdeal.Frame

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program, over any float values and from any memory with zero counters,
    terminates with the result array at the contents of the last boundary (`W5`) and the six arguments unchanged. -/
theorem run : θ_run defs (onTc (τ := τ) (main (F := F))) ⟨m, fun _ => 0, ρ⟩ (fun r => ∀ c : Dev nD,
      r.2.mem ((c.tc : Thread nD τ).loc main_v6) = W5 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.K

end
-- ==== Proof.Hop1.lean ====
/- What the first region leaves in its two arrays: the aggregated features `h1 = adj · x`, and the adjacency's 8-bit codes. -/
module

public import proofs.«01_k».proof.Proof.Gen.KernelIdeal.Frame
public import proofs.«01_k».proof.Proof.Gen.ReferenceIdeal.Read
public import Idealize.ShloMosaic.Lib.Pipeline.Value
public import Idealize.ShloMosaic.Lib.ValueIdx
public import Idealize.ShloMosaic.Lib.Pointwise
public import Idealize.ShloMosaic.Lib.KernelVsHost

@[expose] public section

set_option maxRecDepth 16384

noncomputable section

namespace Cert.Proof.K

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

/-- A zero offset of rank two, as the constant function. -/
theorem hz2 : (![0, 0] : Fin 2 → Nat) = fun _ => 0 := funext fun a => by fin_cases a <;> rfl
/-- A zero offset of rank three, as the constant function. -/
theorem hz3 : (![0, 0, 0] : Fin 3 → Nat) = fun _ => 0 := funext fun a => by fin_cases a <;> rfl

/-- The block indices of region 0's windows at each point: the row blocks move with the point, the features do not. -/
theorem idx0 : ∀ t : Fin grid0.N, win0_0.index t 0 = t.val ∧ win0_0.index t 1 = 0 ∧ win0_1.index t 0 = 0 ∧ win0_1.index t 1 = 0
    ∧ win0_2.index t 0 = t.val ∧ win0_2.index t 1 = 0
    ∧ win0_3.index t 0 = t.val ∧ win0_3.index t 1 = 0 ∧ win0_3.index t 2 = 0 := by decide +kernel

/-- Row `r` of row block `b` is row `400 b + r` of the array. -/
abbrev row (b : Fin 25) (r : Fin 400) : Fin 10000 := ⟨b.val * 400 + r.val, by omega⟩

/-- A point of region 0 as a block number. -/
abbrev pt0 (t : Fin cfg0.N) : Fin 25 := ⟨t.val, t.isLt.trans_eq N_0⟩

section
variable (V : (c : Dev nD) → (b : Ref sig .tc) → Buf (Elt F) ((c : Thread nD τ).loc b)) (c : Dev nD)

/-- Point `t`'s adjacency block is rows `400 t …` of the adjacency. -/
theorem iblk0_0_apply (t : Fin cfg0.N) (r : Fin 400) (k : Fin 10000) :
    iblk0 V c 0 t (ix2 r k) = V c main_arg1 (ix2 (row (pt0 t) r) k) := by
  unfold iblk0
  rw [View.read_apply]
  show V c main_arg1 ((win0_0.rect t).emb (ix2 r k)) = _
  congr 1
  funext a
  apply Fin.ext
  match a with
  | ⟨0, _⟩ => rw [Window.rect_emb_val win0_0 t _ ⟨0, by decide⟩, show win0_0.index t ⟨0, by decide⟩ = t.val from (idx0 t).1]; rfl
  | ⟨1, _⟩ => rw [Window.rect_emb_val_of_index_zero win0_0 t ⟨1, by decide⟩ (idx0 t).2.1]; rfl

/-- Every point's feature block is the whole feature array. -/
theorem iblk0_1_eq (t : Fin cfg0.N) : iblk0 V c 1 t = V c main_arg0 := by
  funext y
  unfold iblk0
  rw [View.read_apply]
  show V c main_arg0 ((win0_1.rect t).emb y) = _
  congr 1
  funext a
  apply Fin.ext
  match a with
  | ⟨0, _⟩ => rw [Window.rect_emb_val_of_index_zero win0_1 t ⟨0, by decide⟩ (idx0 t).2.2.1]
  | ⟨1, _⟩ => rw [Window.rect_emb_val_of_index_zero win0_1 t ⟨1, by decide⟩ (idx0 t).2.2.2.1]

/-- The body leaves the block product in the first output buffer. -/
theorem out0_2_eq (x0 : Vec F S400x10000 .f32) (x1 : Vec F S10000x128 .f32) : out0_2 x0 x1 = k0_pay1 x0 x1 := by
  unfold out0_2
  rw [View.canon_unit_zero hz2, View.ld_unit_zero hz2, View.ld_unit_zero hz2]

/-- The body leaves the block's codes in the second output buffer. -/
theorem out0_3_eq (x0 : Vec F S400x10000 .f32) (x1 : Vec F S10000x128 .f32) : out0_3 x0 x1 = k0_pay2 x0 := by
  unfold out0_3
  rw [View.canon_unit_zero hz3, View.ld_unit_zero hz2]

/-- An entry's 8-bit code: a half added to 127 times it, truncated into the signed 8-bit range. -/
abbrev code (a : F .f32) : BitVec 8 :=
  FloatOps.fptosi 8 (FloatOps.addf (FloatOps.mulf a (Scalar.ofBits .f32 0x42FE0000#32)) (Scalar.ofBits .f32 0x3F000000#32))

/-- A block of codes read at an index. -/
theorem k0_pay2_apply (x0 : Vec F S400x10000 .f32) (z : Fin 1) (r : Fin 400) (k : Fin 10000) :
    k0_pay2 x0 (ix3 z r k) = code (x0 (ix2 r k)) := by
  unfold k0_pay2
  refine (shapeCast_addUnit_apply ![400, 10000] _ _ (ix3 z r k)).trans ?_
  have e : (fun a : Fin 2 => (ix3 z r k : S1x400x10000.Idx) a.succ) = ix2 r k := by funext a; fin_cases a <;> rfl
  rw [e]
  rfl

/-- The code array: row block, row in the block, column. -/
def codes (adj : Vec F S10000x10000 .f32) : Vec F S25x400x10000 .i8 := fun i => code (adj (ix2 (row (i 0) (i 1)) (i 2)))

/-- The code array at explicit coordinates. -/
theorem codes_apply (adj : Vec F S10000x10000 .f32) (b : Fin 25) (r : Fin 400) (k : Fin 10000) :
    codes adj (ix3 b r k) = code (adj (ix2 (row b r) k)) := rfl

/-- Where an element of point `t`'s code block sits in the code array. -/
theorem emb0_3 (t : Fin cfg0.N) (z : Fin 1) (r : Fin 400) (k : Fin 10000) :
    (win0_3.rect t).emb (ix3 z r k : S1x400x10000.Idx) = (ix3 (pt0 t) r k : S25x400x10000.Idx) := by
  funext a
  apply Fin.ext
  match a with
  | ⟨0, _⟩ =>
    rw [Window.rect_emb_val win0_3 t _ ⟨0, by decide⟩, show win0_3.index t ⟨0, by decide⟩ = t.val from (idx0 t).2.2.2.2.2.2.1]
    show t.val * 1 + z.val = t.val
    omega
  | ⟨1, _⟩ => exact Window.rect_emb_val_of_index_zero win0_3 t ⟨1, by decide⟩ (idx0 t).2.2.2.2.2.2.2.1 _
  | ⟨2, _⟩ => exact Window.rect_emb_val_of_index_zero win0_3 t ⟨2, by decide⟩ (idx0 t).2.2.2.2.2.2.2.2 _

/-- Where an element of point `t`'s feature block sits in the array of aggregated features. -/
theorem emb0_2 (t : Fin cfg0.N) (r : Fin 400) (d : Fin 128) :
    (win0_2.rect t).emb (ix2 r d : S400x128.Idx) = (ix2 (row (pt0 t) r) d : S10000x128.Idx) := by
  funext a
  apply Fin.ext
  match a with
  | ⟨0, _⟩ =>
    rw [Window.rect_emb_val win0_2 t _ ⟨0, by decide⟩, show win0_2.index t ⟨0, by decide⟩ = t.val from (idx0 t).2.2.2.2.1]
    rfl
  | ⟨1, _⟩ => exact Window.rect_emb_val_of_index_zero win0_2 t ⟨1, by decide⟩ (idx0 t).2.2.2.2.2.1 _

/-- What point `t` writes back to the code array is its block of the code array of the adjacency. -/
theorem flushed0_3 (t : Fin cfg0.N) :
    (dat0 V c).flushed 3 t = ((cfg0.win 3).blk t).view.read (Elt F) (codes (V c main_arg1)) := by
  show (cfg0.win 3).cut (grid0.coords t) ((dat0 V c).after 3 t) = _
  rw [after0_3, out0_3_eq]
  have key : ∀ y : S1x400x10000.Idx, k0_pay2 (iblk0 V c 0 t) y = codes (V c main_arg1) ((win0_3.rect t).emb y) := fun y => by
    obtain ⟨z, r, k, rfl⟩ : ∃ (z : Fin 1) (r : Fin 400) (k : Fin 10000), y = ix3 z r k := ⟨_, _, _, eq_ix3 y⟩
    rw [k0_pay2_apply, iblk0_0_apply, emb0_3, codes_apply]
  exact funext key

/-- Every element of row block `t` of the code array is in point `t`'s block. -/
theorem mem0_3 (t : Fin cfg0.N) (r : Fin 400) (k : Fin 10000) :
    (ix3 (pt0 t) r k : S25x400x10000.Idx) ∈ ((cfg0.win 3).blk t).view.set := by
  rw [← emb0_3 t 0 r k]
  exact ((cfg0.win 3).blk t).view.emb_mem_set (ix3 (0 : Fin 1) r k : S1x400x10000.Idx)

/-- The code blocks tile the code array. -/
theorem cover0_3 (i : S25x400x10000.Idx) : ∃ t : Fin cfg0.N, (cfg0.win 3).flush t = true ∧ i ∈ ((cfg0.win 3).blk t).view.set := by
  obtain ⟨b, r, k, rfl⟩ : ∃ (b : Fin 25) (r : Fin 400) (k : Fin 10000), i = ix3 b r k := ⟨_, _, _, eq_ix3 i⟩
  exact ⟨⟨b.val, b.isLt.trans_eq N_0.symm⟩, flush0_3 _, mem0_3 ⟨b.val, b.isLt.trans_eq N_0.symm⟩ r k⟩

/-- After region 0 the code array holds the codes of the adjacency. -/
theorem arr0_3 : (dat0 V c).arrAt 3 cfg0.N = codes (V c main_arg1) :=
  (dat0 V c).arrAt_eq_of_cover 3 (codes (V c main_arg1)) (fun t _ => flushed0_3 V c t) cover0_3

/-- Every element of row block `t` of the feature array is in point `t`'s block. -/
theorem mem0_2 (t : Fin cfg0.N) (r : Fin 400) (d : Fin 128) :
    (ix2 (row (pt0 t) r) d : S10000x128.Idx) ∈ ((cfg0.win 2).blk t).view.set := by
  rw [← emb0_2 t r d]
  exact ((cfg0.win 2).blk t).view.emb_mem_set (ix2 r d : S400x128.Idx)

/-- Every row is a row of a block. -/
theorem exists_row (n : Fin 10000) : ∃ (b : Fin 25) (r : Fin 400), n = row b r :=
  ⟨⟨n.val / 400, by omega⟩, ⟨n.val % 400, Nat.mod_lt _ (by decide)⟩, Fin.ext (by show n.val = n.val / 400 * 400 + n.val % 400; omega)⟩

/-- The feature blocks tile the array of aggregated features. -/
theorem cover0_2 (i : S10000x128.Idx) : ∃ t : Fin cfg0.N, (cfg0.win 2).flush t = true ∧ i ∈ ((cfg0.win 2).blk t).view.set := by
  obtain ⟨n, d, rfl⟩ : ∃ (n : Fin 10000) (d : Fin 128), i = ix2 n d := ⟨_, _, eq_ix2 i⟩
  obtain ⟨b, r, rfl⟩ := exists_row n
  exact ⟨⟨b.val, b.isLt.trans_eq N_0.symm⟩, flush0_2 _, mem0_2 ⟨b.val, b.isLt.trans_eq N_0.symm⟩ r d⟩

end

section Ideal
variable (V : (c : Dev nD) → (b : Ref sig .tc) → Buf (Elt Ideal) ((c : Thread nD τ).loc b)) (c : Dev nD)

/-- A block product read at an index: the sum over the contracted columns. -/
theorem k0_pay1_apply (x0 : Vec Ideal S400x10000 .f32) (x1 : Vec Ideal S10000x128 .f32) (r : Fin 400) (d : Fin 128) :
    k0_pay1 x0 x1 (ix2 r d) = ∑ k : Fin 10000, x0 (ix2 r k) * x1 (ix2 k d) := by
  unfold k0_pay1
  simp only [pointwise]
  simp

/-- The reference's product `adj · x` at explicit coordinates. -/
theorem h1_apply (x : Vec Ideal S10000x128 .f32) (adj : Vec Ideal S10000x10000 .f32) (n : Fin 10000) (d : Fin 128) :
    Cert.ReferenceIdeal.Read.val_main_v0 (F := Ideal) x adj (ix2 n d) = ∑ k : Fin 10000, adj (ix2 n k) * x (ix2 k d) := by
  rw [Cert.ReferenceIdeal.Read.val_main_v0_apply]
  refine Finset.sum_congr rfl fun k _ => ?_
  congr 1
  · congr 1; funext a; fin_cases a <;> rfl
  · congr 1; funext a; fin_cases a <;> rfl

/-- What point `t` writes back to the feature array is its block of the reference's product `adj · x`. -/
theorem flushed0_2 (t : Fin cfg0.N) :
    (dat0 V c).flushed 2 t = ((cfg0.win 2).blk t).view.read (Elt Ideal)
      (Cert.ReferenceIdeal.Read.val_main_v0 (F := Ideal) (V c main_arg0) (V c main_arg1)) := by
  show (cfg0.win 2).cut (grid0.coords t) ((dat0 V c).after 2 t) = _
  rw [after0_2, out0_2_eq]
  have key : ∀ y : S400x128.Idx, k0_pay1 (iblk0 V c 0 t) (iblk0 V c 1 t) y
      = Cert.ReferenceIdeal.Read.val_main_v0 (F := Ideal) (V c main_arg0) (V c main_arg1) ((win0_2.rect t).emb y) := fun y => by
    obtain ⟨r, d, rfl⟩ : ∃ (r : Fin 400) (d : Fin 128), y = ix2 r d := ⟨_, _, eq_ix2 y⟩
    rw [emb0_2, k0_pay1_apply, iblk0_1_eq]
    refine Eq.trans ?_ (h1_apply (V c main_arg0) (V c main_arg1) (row (pt0 t) r) d).symm
    exact Finset.sum_congr rfl fun k _ => by rw [iblk0_0_apply]
  exact funext key

/-- After region 0 the feature array holds the reference's product `adj · x`. -/
theorem arr0_2 : (dat0 V c).arrAt 2 cfg0.N
    = Cert.ReferenceIdeal.Read.val_main_v0 (F := Ideal) (V c main_arg0) (V c main_arg1) :=
  (dat0 V c).arrAt_eq_of_cover 2 _ (fun t _ => flushed0_2 V c t) cover0_2

end Ideal

end Cert.Proof.K

end
-- ==== Proof.Quant.lean ====
/- What the second region leaves in its two arrays: the 8-bit codes of the aggregated features, and the column scales. -/
module

public import proofs.«01_k».proof.Proof.Hop1

@[expose] public section

set_option maxRecDepth 16384

noncomputable section

namespace Cert.Proof.K

open Cert.KernelIdeal Cert.KernelIdeal.Gen
open Idealize.ShloMosaic Idealize.ShloMosaic.TcCoe
open Idealize.SL.Sem
open Idealize.ShloMosaic.Pipeline (Dat Cfg Window)
open Cert.ReferenceIdeal.Read

variable {F : FTy → Type} [FloatOps F]

/-- The block indices of region 1's windows: its one point takes each array whole. -/
theorem idx1 : ∀ t : Fin grid1.N, win1_0.index t 0 = 0 ∧ win1_0.index t 1 = 0 ∧ win1_1.index t 0 = 0 ∧ win1_1.index t 1 = 0
    ∧ win1_2.index t 0 = 0 ∧ win1_2.index t 1 = 0 := by decide +kernel

section
variable (V : (c : Dev nD) → (b : Ref sig .tc) → Buf (Elt F) ((c : Thread nD τ).loc b)) (c : Dev nD)

/-- The point reads the whole array of aggregated features. -/
theorem iblk1_0_eq (t : Fin cfg1.N) : iblk1 V c 0 t = V c main_v0_0 := by
  funext y
  unfold iblk1
  rw [View.read_apply]
  show V c main_v0_0 ((win1_0.rect t).emb y) = _
  congr 1
  funext a
  apply Fin.ext
  match a with
  | ⟨0, _⟩ => rw [Window.rect_emb_val_of_index_zero win1_0 t ⟨0, by decide⟩ (idx1 t).1]
  | ⟨1, _⟩ => rw [Window.rect_emb_val_of_index_zero win1_0 t ⟨1, by decide⟩ (idx1 t).2.1]

/-- The body leaves the feature codes in the first output buffer. -/
theorem out1_1_eq (x0 : Vec F S10000x128 .f32) : out1_1 x0 = k1_pay3 x0 := by
  unfold out1_1
  rw [View.canon_unit_zero hz2, View.ld_unit_zero hz2]

/-- The body leaves the column scales in the second output buffer. -/
theorem out1_2_eq (x0 : Vec F S10000x128 .f32) : out1_2 x0 = k1_pay4 x0 := by
  unfold out1_2
  rw [View.canon_unit_zero hz2, View.ld_unit_zero hz2]

/-- The code block sits in the code array where it is. -/
theorem emb1_1 (t : Fin cfg1.N) (y : S10000x128.Idx) : (win1_1.rect t).emb y = y := by
  funext a
  apply Fin.ext
  match a with
  | ⟨0, _⟩ => exact Window.rect_emb_val_of_index_zero win1_1 t ⟨0, by decide⟩ (idx1 t).2.2.1 _
  | ⟨1, _⟩ => exact Window.rect_emb_val_of_index_zero win1_1 t ⟨1, by decide⟩ (idx1 t).2.2.2.1 _

/-- The scale block sits in the scale array where it is. -/
theorem emb1_2 (t : Fin cfg1.N) (y : S1x128.Idx) : (win1_2.rect t).emb y = y := by
  funext a
  apply Fin.ext
  match a with
  | ⟨0, _⟩ => exact Window.rect_emb_val_of_index_zero win1_2 t ⟨0, by decide⟩ (idx1 t).2.2.2.2.1 _
  | ⟨1, _⟩ => exact Window.rect_emb_val_of_index_zero win1_2 t ⟨1, by decide⟩ (idx1 t).2.2.2.2.2 _

/-- The point's code block is the whole code array. -/
theorem mem1_1 (t : Fin cfg1.N) (y : S10000x128.Idx) : y ∈ ((cfg1.win 1).blk t).view.set := by
  have h := ((cfg1.win 1).blk t).view.emb_mem_set y
  rwa [show ((cfg1.win 1).blk t).view.emb y = y from emb1_1 t y] at h

/-- The point's scale block is the whole scale array. -/
theorem mem1_2 (t : Fin cfg1.N) (y : S1x128.Idx) : y ∈ ((cfg1.win 2).blk t).view.set := by
  have h := ((cfg1.win 2).blk t).view.emb_mem_set y
  rwa [show ((cfg1.win 2).blk t).view.emb y = y from emb1_2 t y] at h

/-- What the point writes back to the feature code array. -/
theorem flushed1_1 (t : Fin cfg1.N) :
    (dat1 V c).flushed 1 t = ((cfg1.win 1).blk t).view.read (Elt F) (k1_pay3 (V c main_v0_0)) := by
  show (cfg1.win 1).cut (grid1.coords t) ((dat1 V c).after 1 t) = _
  rw [after1_1, out1_1_eq, iblk1_0_eq]
  have key : ∀ y : S10000x128.Idx, k1_pay3 (V c main_v0_0) y = k1_pay3 (V c main_v0_0) ((win1_1.rect t).emb y) :=
    fun y => by rw [emb1_1]
  exact funext key

/-- What the point writes back to the scale array. -/
theorem flushed1_2 (t : Fin cfg1.N) :
    (dat1 V c).flushed 2 t = ((cfg1.win 2).blk t).view.read (Elt F) (k1_pay4 (V c main_v0_0)) := by
  show (cfg1.win 2).cut (grid1.coords t) ((dat1 V c).after 2 t) = _
  rw [after1_2, out1_2_eq, iblk1_0_eq]
  have key : ∀ y : S1x128.Idx, k1_pay4 (V c main_v0_0) y = k1_pay4 (V c main_v0_0) ((win1_2.rect t).emb y) :=
    fun y => by rw [emb1_2]
  exact funext key

/-- After region 1 the feature code array holds the body's codes of the aggregated features. -/
theorem arr1_1 : (dat1 V c).arrAt 1 cfg1.N = k1_pay3 (V c main_v0_0) :=
  (dat1 V c).arrAt_eq_of_cover 1 (k1_pay3 (V c main_v0_0)) (fun t _ => flushed1_1 V c t)
    fun i => ⟨t1_0, flush1_1 _, mem1_1 t1_0 i⟩

/-- After region 1 the scale array holds the body's scales of the aggregated features. -/
theorem arr1_2 : (dat1 V c).arrAt 2 cfg1.N = k1_pay4 (V c main_v0_0) :=
  (dat1 V c).arrAt_eq_of_cover 2 (k1_pay4 (V c main_v0_0)) (fun t _ => flushed1_2 V c t)
    fun i => ⟨t1_0, flush1_2 _, mem1_2 t1_0 i⟩

end

/-- The body's code at an index: the feature times 127 over its column's maximum, rounded, truncated to 8 bits. -/
theorem k1_pay3_apply (h : Vec F S10000x128 .f32) (n : Fin 10000) (d : Fin 128) :
    k1_pay3 h (ix2 n d) = FloatOps.fptosi 8 (FloatOps.roundeven (FloatOps.mulf (h (ix2 n d))
      (FloatOps.divf (FloatOps.ofBits .f32 0x42FE0000#32) (FloatOps.maximumf (k1_pay2 h (ix2 0 d)) (FloatOps.ofBits .f32 0x0DA24260#32))))) := by
  unfold k1_pay3 k1_pay1
  rw [shapeCast_self]
  generalize k1_pay2 h = m
  simp only [pointwise]
  rfl

/-- The body's scale at an index: the column's maximum times a constant. -/
theorem k1_pay4_apply (h : Vec F S10000x128 .f32) (z : Fin 1) (d : Fin 128) :
    k1_pay4 h (ix2 z d) = FloatOps.mulf (k1_pay2 h (ix2 z d)) (FloatOps.ofBits .f32 0x38820610#32) := rfl

/-! ## The body's arrays against the reference's stages -/

section Ideal
variable (x : Vec Ideal S10000x128 .f32) (adj : Vec Ideal S10000x10000 .f32)

/-- The body's column maximum of `|h|` at an index is a maximum over the rows of column `d`. -/
theorem k1_pay2_apply (h : Vec Ideal S10000x128 .f32) (z : Fin 1) (d : Fin 128) :
    k1_pay2 h (ix2 z d) = multiReduction .maximumf [0] S128 (absf h) 0xFF800000#32 reduces_S10000x128_S128 (.inl rfl) rfl (ix1 d) := by
  unfold k1_pay2 k1_pay1
  refine (shapeCast_addUnit_apply ![128] _ _ (ix2 z d)).trans ?_
  have e : (fun a : Fin 1 => (ix2 z d : S1x128.Idx) a.succ) = ix1 d := by funext a; fin_cases a; rfl
  rw [e, shapeCast_self]

/-- The kernel's column maximum of `|adj · x|` is the reference's. -/
theorem colmax_eq (z : Fin 1) (d : Fin 128) :
    k1_pay2 (val_main_v0 (F := Ideal) x adj) (ix2 z d) = val_main_v2 (F := Ideal) x adj (ix1 d) := by
  rw [k1_pay2_apply]
  unfold val_main_v2 val_main_v1 val_main_cst
  generalize val_main_v0 (F := Ideal) x adj = h
  have e := (congrFun (hostReduce_maximumf_eq_multiReduction (u := S_) (Host.absf (s := S10000x128) (φ := .f32) (show FVec Ideal S10000x128 .f32 from h)) 0xFF800000#32
    Cert.ReferenceIdeal.Gen.reducesTo_S10000x128_S128_d0 Cert.ReferenceIdeal.Gen.h_S_ reduces_S10000x128_S128 (.inl rfl) rfl) (ix1 d)).symm
  refine Eq.trans ?_ e
  rfl

/-- The reference's rounded, scaled feature. -/
abbrev scaled : FVec Ideal S10000x128 .f32 := val_main_v15 (F := Ideal) x adj

/-- The kernel's feature code is the truncation of the reference's rounded, scaled feature. -/
theorem quant_eq (n : Fin 10000) (d : Fin 128) :
    k1_pay3 (val_main_v0 (F := Ideal) x adj) (ix2 n d) = FloatOps.fptosi 8 (scaled x adj (ix2 n d)) := by
  rw [k1_pay3_apply, colmax_eq]
  unfold scaled
  rw [val_main_v15_apply, val_main_v14_apply, val_main_v13_apply, val_main_v12_apply, val_main_v11_apply, val_main_v10_apply, val_main_v9_apply, val_main_v8_apply]
  have e : idx_main_v12 (idx_main_v13 (ix2 n d)) = ix1 d := by funext a; fin_cases a; rfl
  rw [e]
  generalize val_main_v2 (F := Ideal) x adj (ix1 d) = m
  generalize val_main_v0 (F := Ideal) x adj (ix2 n d) = h
  rw [val_main_cst_3_apply, val_main_cst_2_apply, Ideal.hostUnary_roundeven_def, Ideal.hostDivf_def, Ideal.roundeven_def, Ideal.divf_def]

/-- The kernel's column scale is the reference's. -/
theorem scale_eq (z : Fin 1) (d : Fin 128) :
    k1_pay4 (val_main_v0 (F := Ideal) x adj) (ix2 z d) = val_main_v29 (F := Ideal) x adj (ix1 d) := by
  rw [k1_pay4_apply, val_main_v29_apply, val_main_v28_apply, colmax_eq x adj z d, val_main_cst_7_apply]

end Ideal

end Cert.Proof.K

end
-- ==== Proof.Codes.lean ====
/- The 8-bit codes as integers: converting straight into the signed 8-bit range is converting to 32 bits and clipping. -/
module

public import proofs.«01_k».proof.Proof.Quant

@[expose] public section

set_option maxRecDepth 16384

noncomputable section

namespace Cert.Proof.K

open Cert.KernelIdeal Cert.KernelIdeal.Gen
open Idealize.ShloMosaic Idealize.ShloMosaic.TcCoe
open Cert.ReferenceIdeal.Read

/-- A value converted to a signed 8-bit integer, as the integer: truncated toward zero and clamped. -/
theorem toInt_fptosi8 (v : EReal) : (Ideal.fptosi 8 v).toInt = Ideal.toIntClamped (-128) 127 v := by
  show (BitVec.ofInt 8 (Ideal.toIntClamped (-128) 127 v)).toInt = _
  have h : -128 ≤ Ideal.toIntClamped (-128) 127 v ∧ Ideal.toIntClamped (-128) 127 v ≤ 127 := by
    induction v using EReal.rec with
    | bot => simp
    | top => simp
    | coe r => rw [Ideal.toIntClamped_coe]; omega
  rw [BitVec.toInt_ofInt]
  apply Int.bmod_eq_of_le <;> omega

/-- A value converted to a signed 32-bit integer, as the integer. -/
theorem toInt_fptosi32 (v : EReal) : (Ideal.fptosi 32 v).toInt = Ideal.toIntClamped (-2147483648) 2147483647 v := by
  show (BitVec.ofInt 32 (Ideal.toIntClamped (-2147483648) 2147483647 v)).toInt = _
  have h : -2147483648 ≤ Ideal.toIntClamped (-2147483648) 2147483647 v ∧ Ideal.toIntClamped (-2147483648) 2147483647 v ≤ 2147483647 := by
    induction v using EReal.rec with
    | bot => simp
    | top => simp
    | coe r => rw [Ideal.toIntClamped_coe]; omega
  rw [BitVec.toInt_ofInt]
  apply Int.bmod_eq_of_le <;> omega

/-- Clipping a 32-bit integer to the signed 8-bit range. -/
abbrev clip (b : BitVec 32) : BitVec 32 := IntOp.minsi (IntOp.maxsi b 4294967168#32) 127#32

/-- Clipping, as integers. -/
theorem toInt_clip (b : BitVec 32) : (clip b).toInt = min (max b.toInt (-128)) 127 := by
  have e1 : (4294967168#32 : BitVec 32).toInt = -128 := by decide
  have e2 : (127#32 : BitVec 32).toInt = 127 := by decide
  unfold clip IntOp.minsi IntOp.maxsi
  simp only [BitVec.slt, decide_eq_true_eq]
  split_ifs <;> omega

/-- Converting to 32 bits and clipping is converting straight to 8 bits. -/
theorem toInt_clip_fptosi (v : EReal) : (clip (Ideal.fptosi 32 v)).toInt = (Ideal.fptosi 8 v).toInt := by
  rw [toInt_clip, toInt_fptosi32, toInt_fptosi8]
  induction v using EReal.rec with
  | bot => simp
  | top => simp
  | coe r => rw [Ideal.toIntClamped_coe, Ideal.toIntClamped_coe]; omega

variable (x : Vec Ideal S10000x128 .f32) (adj : Vec Ideal S10000x10000 .f32)

/-- The adjacency's code at an entry. -/
abbrev acode (n k : Fin 10000) : BitVec 8 := code (F := Ideal) (adj (ix2 n k))

/-- The aggregated features' code at an entry. -/
abbrev hcode (k : Fin 10000) (d : Fin 128) : BitVec 8 := FloatOps.fptosi (F := Ideal) (φ := .f32) 8 (scaled x adj (ix2 k d))

/-- The reference's clipped adjacency code is the kernel's 8-bit code. -/
theorem aq_eq (n k : Fin 10000) : val_main_v21 (F := Ideal) adj (ix2 n k) = (((acode adj n k).toInt : ℝ) : EReal) := by
  rw [val_main_v21_apply, val_main_v20_apply, val_main_v18_apply, val_main_v7_apply, val_main_v17_apply, val_main_v19_apply,
    val_main_c_apply, val_main_c_4_apply, val_main_v6_apply, val_main_v4_apply, val_main_v3_apply, val_main_v5_apply,
    val_main_cst_0_apply, val_main_cst_1_apply]
  exact congrArg (fun z : Int => ((z : ℝ) : EReal)) (toInt_clip_fptosi _)

/-- The reference's clipped feature code is the kernel's 8-bit code. -/
theorem hq_eq (k : Fin 10000) (d : Fin 128) : val_main_v26 (F := Ideal) x adj (ix2 k d) = (((hcode x adj k d).toInt : ℝ) : EReal) := by
  rw [val_main_v26_apply, val_main_v25_apply, val_main_v23_apply, val_main_v16_apply, val_main_v22_apply, val_main_v24_apply,
    val_main_c_5_apply, val_main_c_6_apply]
  exact congrArg (fun z : Int => ((z : ℝ) : EReal)) (toInt_clip_fptosi _)

/-- A finite sum of products of integers, taken on the extended reals, is the integer sum. -/
theorem coe_sum_int {ι : Type} (s : Finset ι) (f : ι → Int) : (∑ k ∈ s, (((f k : Int) : ℝ) : EReal)) = (((∑ k ∈ s, f k : Int) : ℝ) : EReal) := by
  classical
  induction s using Finset.induction_on with
  | empty => simp
  | insert a s ha ih => rw [Finset.sum_insert ha, Finset.sum_insert ha, ih]; push_cast; rfl

/-- The reference's product of the codes is the integer product. -/
theorem dot_eq (n : Fin 10000) (d : Fin 128) :
    val_main_v27 (F := Ideal) x adj (ix2 n d) = (((∑ k : Fin 10000, (acode adj n k).toInt * (hcode x adj k d).toInt : Int) : ℝ) : EReal) := by
  rw [val_main_v27_apply, ← coe_sum_int]
  refine Finset.sum_congr rfl fun k _ => ?_
  have e1 : lidx_main_v27 (ix2 n d) k = ix2 n k := by funext a; fin_cases a <;> rfl
  have e2 : ridx_main_v27 (ix2 n d) k = ix2 k d := by funext a; fin_cases a <;> rfl
  rw [e1, e2, aq_eq, hq_eq, ← EReal.coe_mul, ← Int.cast_mul]

end Cert.Proof.K

end
-- ==== Proof.Mask.lean ====
/- What the mask says of a row it selects: every sum of magnitudes of products of codes along the row is at most 2²⁶. -/
module

public import proofs.«01_k».proof.Proof.Codes
public import proofs.«01_k».proof.Proof.Gen.On_int_dot_exact

@[expose] public section

set_option maxRecDepth 16384

noncomputable section

namespace Cert.Proof.K

open Cert.KernelIdeal Cert.KernelIdeal.Gen
open Idealize.ShloMosaic Idealize.ShloMosaic.TcCoe
open Cert.ReferenceIdeal.Read

variable (x : Vec Ideal S10000x128 .f32) (adj : Vec Ideal S10000x10000 .f32)

/-- The products of magnitudes of codes, summed along the contracted axis, as the host computes them. -/
def absdot : FVec Ideal S10000x128 .f32 :=
  Host.dotGeneral (F := Ideal) Cert.ReferenceIdeal.dot_S10000x10000_S10000x128_S10000x128_1_0_0_1_n_n none
    (Host.absf (s := S10000x10000) (φ := .f32) (val_main_v21 (F := Ideal) adj)) (Host.absf (s := S10000x128) (φ := .f32) (val_main_v26 (F := Ideal) x adj))

/-- The mask is a comparison of the row maxima of `absdot` with 2²⁶. -/
theorem mask_eq (w1 : Vec Ideal S128x128 .f32) (b1 w2 : Vec Ideal S128 .f32) (b2 : Vec Ideal S_ .f32) :
    Cert.On_int_dot_exact.fn (F := Ideal) x adj w1 b1 w2 b2
      = cmpf .ole (Host.reduce FloatOps.maximumf (absdot x adj) (constant Cert.On_int_dot_exact.S_ .f32 0xFF800000#32)
          Cert.On_int_dot_exact.Facts.reducesTo_S10000x128_S10000_d1 Cert.On_int_dot_exact.Facts.h_S_)
        (broadcastInDim Cert.On_int_dot_exact.S10000 ![] Cert.On_int_dot_exact.Facts.bcast_S_S10000 (constant (F := Ideal) Cert.On_int_dot_exact.S_ .f32 0x4C800000#32)) := rfl

/-- The magnitude of an integer on the extended reals. -/
theorem absf_int (z : Int) : FloatOps.hostAbsf (F := Ideal) (φ := .f32) (((z : ℝ) : EReal)) = ((((z.natAbs : Int)) : ℝ) : EReal) := by
  rw [Ideal.hostAbsf_def, Ideal.absf_def, ← EReal.coe_neg]
  change max ((z : ℝ) : EReal) ((-(z : ℝ) : ℝ) : EReal) = _
  rw [← EReal.coe_strictMono.monotone.map_max]
  congr 1
  rw [Int.natCast_natAbs, Int.cast_abs]
  rfl

/-- A product over the 10000 columns, as the host computes it, read at an index. -/
theorem hostDot_apply (a : FVec Ideal S10000x10000 .f32) (h : FVec Ideal S10000x128 .f32) (n : Fin 10000) (d : Fin 128) :
    Host.dotGeneral (F := Ideal) Cert.ReferenceIdeal.dot_S10000x10000_S10000x128_S10000x128_1_0_0_1_n_n none a h (ix2 n d)
      = ∑ k : Fin 10000, a (ix2 n k) * h (ix2 k d) := h1_apply h a n d

/-- `absdot` at an index: the integer sum of the magnitudes of the products of codes. -/
theorem absdot_apply (n : Fin 10000) (d : Fin 128) :
    absdot x adj (ix2 n d)
      = (((∑ k : Fin 10000, ((((acode adj n k).toInt * (hcode x adj k d).toInt).natAbs : Nat) : Int) : Int) : ℝ) : EReal) := by
  unfold absdot
  rw [hostDot_apply]
  rw [← coe_sum_int]
  refine Finset.sum_congr rfl fun k _ => ?_
  have e1 : Host.absf (s := S10000x10000) (φ := .f32) (val_main_v21 (F := Ideal) adj) (ix2 n k)
      = FloatOps.hostAbsf (F := Ideal) (φ := .f32) (val_main_v21 (F := Ideal) adj (ix2 n k)) := rfl
  have e2 : Host.absf (s := S10000x128) (φ := .f32) (val_main_v26 (F := Ideal) x adj) (ix2 k d)
      = FloatOps.hostAbsf (F := Ideal) (φ := .f32) (val_main_v26 (F := Ideal) x adj (ix2 k d)) := rfl
  rw [e1, e2, aq_eq, hq_eq, absf_int, absf_int, ← EReal.coe_mul, ← Int.cast_mul, ← Nat.cast_mul, ← Int.natAbs_mul]

/-- The row axis of a feature array reduces to a vector of rows. -/
theorem reduces_rows : S10000x128.Reduces [1] Cert.On_int_dot_exact.S10000 := by decide

/-- An entry of a row is at most the row's maximum. -/
theorem le_rowmax (v : FVec Ideal S10000x128 .f32) (n : Fin 10000) (d : Fin 128) :
    v (ix2 n d) ≤ Host.reduce FloatOps.maximumf v (constant Cert.On_int_dot_exact.S_ .f32 0xFF800000#32)
          Cert.On_int_dot_exact.Facts.reducesTo_S10000x128_S10000_d1 Cert.On_int_dot_exact.Facts.h_S_ (ix1 n) := by
  have e := (congrFun (hostReduce_maximumf_eq_multiReduction (u := Cert.On_int_dot_exact.S_) v 0xFF800000#32
    Cert.On_int_dot_exact.Facts.reducesTo_S10000x128_S10000_d1 Cert.On_int_dot_exact.Facts.h_S_ reduces_rows (.inl rfl) rfl) (ix1 n)).trans
    (Ideal.multiReduction_maximumf_single v 0xFF800000#32 reduces_rows (.inl rfl) rfl (ix1 n))
  rw [e]
  have hl : reduces_rows.lift (ix1 n) d = (ix2 n d : S10000x128.Idx) := by
    funext a
    apply Fin.ext
    refine (reduces_rows.lift_val (ix1 n) d a).trans ?_
    fin_cases a <;> rfl
  rw [Finset.le_fold_max]
  exact .inr ⟨d, Finset.mem_univ _, le_of_eq (congrArg v hl.symm)⟩

/-- An ordered comparison that holds, on the extended reals. -/
theorem le_of_cmpf {s : Shape} (a b : FVec Ideal s .f32) (i : s.Idx) (h : cmpf .ole a b i = 1#1) : a i ≤ b i := by
  have h' : BitVec.ofBool (decide (a i ≤ b i)) = 1#1 := h
  by_contra hc
  rw [decide_eq_false hc] at h'
  exact absurd h' (by decide)

/-- The mask's bound as a real number. -/
theorem bound_value : Ideal.ofBits .f32 0x4C800000#32 = ((67108864 : ℝ) : EReal) := by
  simp [Ideal.ofBits, Ideal.ieee, -EReal.coe_mul]; norm_num

/-- The mask's bound, broadcast to the rows, read at a row. -/
theorem bound_apply (n : Fin 10000) :
    broadcastInDim Cert.On_int_dot_exact.S10000 ![] Cert.On_int_dot_exact.Facts.bcast_S_S10000
      (constant (F := Ideal) Cert.On_int_dot_exact.S_ .f32 0x4C800000#32) (ix1 n) = Ideal.ofBits .f32 0x4C800000#32 := rfl

/-- On a row the mask selects, every sum of magnitudes of products of codes is at most 2²⁶. -/
theorem mask_bound (w1 : Vec Ideal S128x128 .f32) (b1 w2 : Vec Ideal S128 .f32) (b2 : Vec Ideal S_ .f32) (n : Fin 10000)
    (h : Cert.On_int_dot_exact.fn (F := Ideal) x adj w1 b1 w2 b2 (ix1 n) = 1#1) (d : Fin 128) :
    ∑ k : Fin 10000, ((acode adj n k).toInt * (hcode x adj k d).toInt).natAbs ≤ 67108864 := by
  rw [mask_eq] at h
  have hb := (le_of_cmpf _ _ _ h).trans_eq (bound_apply n)
  have hd := (le_rowmax (absdot x adj) n d).trans hb
  rw [absdot_apply] at hd
  rw [bound_value] at hd
  have hr := EReal.coe_le_coe_iff.1 hd
  have hz : (∑ k : Fin 10000, ((((acode adj n k).toInt * (hcode x adj k d).toInt).natAbs : Nat) : Int)) ≤ 67108864 := by
    exact_mod_cast hr
  exact_mod_cast hz

end Cert.Proof.K

end
-- ==== Proof.Hop2.lean ====
/- What the third region leaves in its array: for each row, the two-layer readout of the row's integer product of codes. -/
module

public import proofs.«01_k».proof.Proof.Codes
public import Idealize.ShloMosaic.Lib.IntMxu

@[expose] public section

set_option maxRecDepth 16384

noncomputable section

namespace Cert.Proof.K

open Cert.KernelIdeal Cert.KernelIdeal.Gen
open Idealize.ShloMosaic Idealize.ShloMosaic.TcCoe
open Idealize.SL.Sem
open Idealize.ShloMosaic.Pipeline (Dat Cfg Window)

/-- The integer matrix unit's product of a block of adjacency codes and the feature codes. -/
abbrev prod (a : IVec S400x10000 8) (h : IVec S10000x128 8) : IVec S400x128 32 :=
  matmulI8 IntMxuNumerics.v5e dot_S400x10000_S10000x128_S400x128_1_0_0_1_n_n a h (constantI S400x128 32 0#32)

/-- The readout of a row: its products scaled, through a layer with a bias and a rectifier, against the output weights. -/
def readout (p : Fin 128 → BitVec 32) (cs : Vec Ideal S1x128 .f32) (w1 : Vec Ideal S128x128 .f32) (b1 w2 : Vec Ideal S1x128 .f32)
    (b2 : Vec Ideal S1x1 .f32) : EReal :=
  (∑ j : Fin 128, max ((∑ d : Fin 128, (((p d).toInt : ℝ) : EReal) * cs (ix2 0 d) * w1 (ix2 j d)) + b1 (ix2 0 j)) 0 * w2 (ix2 0 j))
    + b2 (ix2 0 0)

/-- The body's block read at an index: the row's readout. -/
theorem k2_pay1_apply (a : Vec Ideal S1x400x10000 .i8) (h : Vec Ideal S10000x128 .i8) (cs : Vec Ideal S1x128 .f32) (w1 : Vec Ideal S128x128 .f32)
    (b1 w2 : Vec Ideal S1x128 .f32) (b2 : Vec Ideal S1x1 .f32) (z z' : Fin 1) (r : Fin 400) :
    k2_pay1 a h cs w1 b1 w2 b2 (ix3 z z' r)
      = readout (fun d => prod (shapeCast S400x10000 a shapeCasts_S1x400x10000_S400x10000) h (ix2 r d)) cs w1 b1 w2 b2 := by
  unfold k2_pay1
  rw [shapeCast_self, shapeCast_self, shapeCast_self, shapeCast_self]
  refine (shapeCast_apply _ _ (ix3 z z' r) (ix1 r) ?_).trans ?_
  · rw [Shape.rowMajor_val_one, Shape.rowMajor_val_three]
    show r.val = (z.val * 1 + z'.val) * 400 + r.val
    omega
  unfold readout prod
  generalize matmulI8 IntMxuNumerics.v5e dot_S400x10000_S10000x128_S400x128_1_0_0_1_n_n (shapeCast S400x10000 a shapeCasts_S1x400x10000_S400x10000) h (constantI S400x128 32 0#32) = p
  simp only [pointwise]
  simp
  rfl

section
variable (V : (c : Dev nD) → (b : Ref sig .tc) → Buf (Elt Ideal) ((c : Thread nD τ).loc b)) (c : Dev nD)

/-- The block indices of region 2's windows at each point: the code and result blocks move with the point, the rest do not. -/
theorem idx2 : ∀ t : Fin grid2.N, (win2_0.index t 0 = t.val ∧ win2_0.index t 1 = 0 ∧ win2_0.index t 2 = 0)
    ∧ (win2_1.index t 0 = 0 ∧ win2_1.index t 1 = 0) ∧ (win2_2.index t 0 = 0 ∧ win2_2.index t 1 = 0)
    ∧ (win2_3.index t 0 = 0 ∧ win2_3.index t 1 = 0) ∧ (win2_4.index t 0 = 0 ∧ win2_4.index t 1 = 0)
    ∧ (win2_5.index t 0 = 0 ∧ win2_5.index t 1 = 0) ∧ (win2_6.index t 0 = 0 ∧ win2_6.index t 1 = 0)
    ∧ (win2_7.index t 0 = t.val ∧ win2_7.index t 1 = 0 ∧ win2_7.index t 2 = 0) := by decide +kernel

/-- A point of region 2 as a block number. -/
abbrev pt2 (t : Fin cfg2.N) : Fin 25 := ⟨t.val, t.isLt.trans_eq N_2⟩

/-- Point `t`'s code block is block `t` of the code array. -/
theorem iblk2_0_apply (t : Fin cfg2.N) (z : Fin 1) (r : Fin 400) (k : Fin 10000) :
    iblk2 V c 0 t (ix3 z r k) = V c main_v0_1 (ix3 (pt2 t) r k) := by
  unfold iblk2
  rw [View.read_apply]
  show V c main_v0_1 ((win2_0.rect t).emb (ix3 z r k)) = _
  congr 1
  funext a
  apply Fin.ext
  match a with
  | ⟨0, _⟩ =>
    rw [Window.rect_emb_val win2_0 t _ ⟨0, by decide⟩, show win2_0.index t ⟨0, by decide⟩ = t.val from (idx2 t).1.1]
    show t.val * 1 + z.val = t.val
    omega
  | ⟨1, _⟩ => exact Window.rect_emb_val_of_index_zero win2_0 t ⟨1, by decide⟩ (idx2 t).1.2.1 _
  | ⟨2, _⟩ => exact Window.rect_emb_val_of_index_zero win2_0 t ⟨2, by decide⟩ (idx2 t).1.2.2 _

/-- Every point's block of the feature codes is the whole array. -/
theorem iblk2_1_eq (t : Fin cfg2.N) : iblk2 V c 1 t = V c main_v1_0 := by
  funext y
  unfold iblk2
  rw [View.read_apply]
  show V c main_v1_0 ((win2_1.rect t).emb y) = _
  congr 1
  funext a
  apply Fin.ext
  match a with
  | ⟨0, _⟩ => rw [Window.rect_emb_val_of_index_zero win2_1 t ⟨0, by decide⟩ (idx2 t).2.1.1]
  | ⟨1, _⟩ => rw [Window.rect_emb_val_of_index_zero win2_1 t ⟨1, by decide⟩ (idx2 t).2.1.2]

/-- Every point's block of the column scales is the whole array. -/
theorem iblk2_2_eq (t : Fin cfg2.N) : iblk2 V c 2 t = V c main_v1_1 := by
  funext y
  unfold iblk2
  rw [View.read_apply]
  show V c main_v1_1 ((win2_2.rect t).emb y) = _
  congr 1
  funext a
  apply Fin.ext
  match a with
  | ⟨0, _⟩ => rw [Window.rect_emb_val_of_index_zero win2_2 t ⟨0, by decide⟩ (idx2 t).2.2.1.1]
  | ⟨1, _⟩ => rw [Window.rect_emb_val_of_index_zero win2_2 t ⟨1, by decide⟩ (idx2 t).2.2.1.2]

/-- Every point's block of the first layer's weights is the whole array. -/
theorem iblk2_3_eq (t : Fin cfg2.N) : iblk2 V c 3 t = V c main_arg2 := by
  funext y
  unfold iblk2
  rw [View.read_apply]
  show V c main_arg2 ((win2_3.rect t).emb y) = _
  congr 1
  funext a
  apply Fin.ext
  match a with
  | ⟨0, _⟩ => rw [Window.rect_emb_val_of_index_zero win2_3 t ⟨0, by decide⟩ (idx2 t).2.2.2.1.1]
  | ⟨1, _⟩ => rw [Window.rect_emb_val_of_index_zero win2_3 t ⟨1, by decide⟩ (idx2 t).2.2.2.1.2]

/-- Every point's block of the first layer's bias is the whole array. -/
theorem iblk2_4_eq (t : Fin cfg2.N) : iblk2 V c 4 t = V c main_v2 := by
  funext y
  unfold iblk2
  rw [View.read_apply]
  show V c main_v2 ((win2_4.rect t).emb y) = _
  congr 1
  funext a
  apply Fin.ext
  match a with
  | ⟨0, _⟩ => rw [Window.rect_emb_val_of_index_zero win2_4 t ⟨0, by decide⟩ (idx2 t).2.2.2.2.1.1]
  | ⟨1, _⟩ => rw [Window.rect_emb_val_of_index_zero win2_4 t ⟨1, by decide⟩ (idx2 t).2.2.2.2.1.2]

/-- Every point's block of the output weights is the whole array. -/
theorem iblk2_5_eq (t : Fin cfg2.N) : iblk2 V c 5 t = V c main_v3 := by
  funext y
  unfold iblk2
  rw [View.read_apply]
  show V c main_v3 ((win2_5.rect t).emb y) = _
  congr 1
  funext a
  apply Fin.ext
  match a with
  | ⟨0, _⟩ => rw [Window.rect_emb_val_of_index_zero win2_5 t ⟨0, by decide⟩ (idx2 t).2.2.2.2.2.1.1]
  | ⟨1, _⟩ => rw [Window.rect_emb_val_of_index_zero win2_5 t ⟨1, by decide⟩ (idx2 t).2.2.2.2.2.1.2]

/-- Every point's block of the output bias is the whole array. -/
theorem iblk2_6_eq (t : Fin cfg2.N) : iblk2 V c 6 t = V c main_v4 := by
  funext y
  unfold iblk2
  rw [View.read_apply]
  show V c main_v4 ((win2_6.rect t).emb y) = _
  congr 1
  funext a
  apply Fin.ext
  match a with
  | ⟨0, _⟩ => rw [Window.rect_emb_val_of_index_zero win2_6 t ⟨0, by decide⟩ (idx2 t).2.2.2.2.2.2.1.1]
  | ⟨1, _⟩ => rw [Window.rect_emb_val_of_index_zero win2_6 t ⟨1, by decide⟩ (idx2 t).2.2.2.2.2.2.1.2]

/-- The body leaves the row readouts in the output buffer. -/
theorem out2_7_eq (x0 : Vec Ideal S1x400x10000 .i8) (x1 : Vec Ideal S10000x128 .i8) (x2 : Vec Ideal S1x128 .f32) (x3 : Vec Ideal S128x128 .f32)
    (x4 x5 : Vec Ideal S1x128 .f32) (x6 : Vec Ideal S1x1 .f32) : out2_7 x0 x1 x2 x3 x4 x5 x6 = k2_pay1 x0 x1 x2 x3 x4 x5 x6 := by
  unfold out2_7
  rw [View.canon_unit_zero hz3, View.ld_unit_zero hz3, View.ld_unit_zero hz2, View.ld_unit_zero hz2, View.ld_unit_zero hz2,
    View.ld_unit_zero hz2, View.ld_unit_zero hz2, View.ld_unit_zero hz2]

/-- Row block `b` of the code array, as a matrix. -/
def block (aq : Vec Ideal S25x400x10000 .i8) (b : Fin 25) : IVec S400x10000 8 := fun i => aq (ix3 b (i 0) (i 1))

/-- Point `t`'s code block as a matrix is row block `t` of the code array. -/
theorem block_eq (t : Fin cfg2.N) :
    shapeCast S400x10000 (iblk2 V c 0 t) shapeCasts_S1x400x10000_S400x10000 = block (V c main_v0_1) (pt2 t) := by
  funext i
  obtain ⟨r, k, rfl⟩ : ∃ (r : Fin 400) (k : Fin 10000), i = ix2 r k := ⟨_, _, eq_ix2 i⟩
  refine (shapeCast_apply _ _ (ix2 r k) (ix3 (0 : Fin 1) r k) ?_).trans (iblk2_0_apply V c t 0 r k)
  rw [Shape.rowMajor_val_two, Shape.rowMajor_val_three]
  show (0 * 400 + r.val) * 10000 + k.val = r.val * 10000 + k.val
  omega

/-- The result array: at row `r` of row block `b`, the readout of the row. -/
def result (aq : Vec Ideal S25x400x10000 .i8) (hq : Vec Ideal S10000x128 .i8) (cs : Vec Ideal S1x128 .f32) (w1 : Vec Ideal S128x128 .f32)
    (b1 w2 : Vec Ideal S1x128 .f32) (b2 : Vec Ideal S1x1 .f32) : Vec Ideal S25x1x400 .f32 :=
  fun i => readout (fun d => prod (block aq (i 0)) hq (ix2 (i 2) d)) cs w1 b1 w2 b2

/-- The result array of the region's entry contents. -/
abbrev resultOf : Vec Ideal S25x1x400 .f32 :=
  result (V c main_v0_1) (V c main_v1_0) (V c main_v1_1) (V c main_arg2) (V c main_v2) (V c main_v3) (V c main_v4)

/-- The result array at explicit coordinates. -/
theorem result_apply (aq : Vec Ideal S25x400x10000 .i8) (hq : Vec Ideal S10000x128 .i8) (cs : Vec Ideal S1x128 .f32) (w1 : Vec Ideal S128x128 .f32)
    (b1 w2 : Vec Ideal S1x128 .f32) (b2 : Vec Ideal S1x1 .f32) (b : Fin 25) (z : Fin 1) (r : Fin 400) :
    result aq hq cs w1 b1 w2 b2 (ix3 b z r) = readout (fun d => prod (block aq b) hq (ix2 r d)) cs w1 b1 w2 b2 := rfl

/-- Where an element of point `t`'s result block sits in the result array. -/
theorem emb2_7 (t : Fin cfg2.N) (z z' : Fin 1) (r : Fin 400) :
    (win2_7.rect t).emb (ix3 z z' r : S1x1x400.Idx) = (ix3 (pt2 t) z' r : S25x1x400.Idx) := by
  funext a
  apply Fin.ext
  match a with
  | ⟨0, _⟩ =>
    rw [Window.rect_emb_val win2_7 t _ ⟨0, by decide⟩, show win2_7.index t ⟨0, by decide⟩ = t.val from (idx2 t).2.2.2.2.2.2.2.1]
    show t.val * 1 + z.val = t.val
    omega
  | ⟨1, _⟩ => exact Window.rect_emb_val_of_index_zero win2_7 t ⟨1, by decide⟩ (idx2 t).2.2.2.2.2.2.2.2.1 _
  | ⟨2, _⟩ => exact Window.rect_emb_val_of_index_zero win2_7 t ⟨2, by decide⟩ (idx2 t).2.2.2.2.2.2.2.2.2 _

/-- What point `t` writes back is its block of the result array. -/
theorem flushed2_7 (t : Fin cfg2.N) :
    (dat2 V c).flushed 7 t = ((cfg2.win 7).blk t).view.read (Elt Ideal) (resultOf V c) := by
  show (cfg2.win 7).cut (grid2.coords t) ((dat2 V c).after 7 t) = _
  rw [after2_7, out2_7_eq, iblk2_1_eq, iblk2_2_eq, iblk2_3_eq, iblk2_4_eq, iblk2_5_eq, iblk2_6_eq]
  have key : ∀ y : S1x1x400.Idx, k2_pay1 (iblk2 V c 0 t) (V c main_v1_0) (V c main_v1_1) (V c main_arg2) (V c main_v2) (V c main_v3) (V c main_v4) y
      = resultOf V c ((win2_7.rect t).emb y) := fun y => by
    obtain ⟨z, z', r, rfl⟩ : ∃ (z z' : Fin 1) (r : Fin 400), y = ix3 z z' r := ⟨_, _, _, eq_ix3 y⟩
    rw [k2_pay1_apply, emb2_7, block_eq]
    rfl
  exact funext key

/-- The result blocks tile the result array. -/
theorem cover2_7 (i : S25x1x400.Idx) : ∃ t : Fin cfg2.N, (cfg2.win 7).flush t = true ∧ i ∈ ((cfg2.win 7).blk t).view.set := by
  obtain ⟨b, z, r, rfl⟩ : ∃ (b : Fin 25) (z : Fin 1) (r : Fin 400), i = ix3 b z r := ⟨_, _, _, eq_ix3 i⟩
  refine ⟨⟨b.val, b.isLt.trans_eq N_2.symm⟩, flush2_7 _, ?_⟩
  have h := ((cfg2.win 7).blk ⟨b.val, b.isLt.trans_eq N_2.symm⟩).view.emb_mem_set (ix3 (0 : Fin 1) z r : S1x1x400.Idx)
  rwa [show ((cfg2.win 7).blk ⟨b.val, b.isLt.trans_eq N_2.symm⟩).view.emb (ix3 (0 : Fin 1) z r : S1x1x400.Idx) = (ix3 b z r : S25x1x400.Idx)
    from emb2_7 ⟨b.val, b.isLt.trans_eq N_2.symm⟩ 0 z r] at h

/-- After region 2 the result array holds every row's readout. -/
theorem arr2_7 : (dat2 V c).arrAt 7 cfg2.N = resultOf V c :=
  (dat2 V c).arrAt_eq_of_cover 7 (resultOf V c) (fun t _ => flushed2_7 V c t) cover2_7

end

end Cert.Proof.K

end
-- ==== Proof.Value.lean ====
/- The kernel program's result array as a function of its arguments: the regions' arrays joined along the boundaries. -/
module

public import proofs.«01_k».proof.Proof.Hop2

@[expose] public section

set_option maxRecDepth 16384

noncomputable section

namespace Cert.Proof.K

open Cert.KernelIdeal Cert.KernelIdeal.Gen
open Idealize.ShloMosaic Idealize.ShloMosaic.TcCoe
open Idealize.SL.Sem
open Cert.ReferenceIdeal.Read

variable (m : (ℓ : Loc nD τ sig) → Buf (Elt Ideal) ℓ) (ρ : Dev nD → PrngReg) (c : Dev nD)

/-- An argument's contents at launch. -/
abbrev arg (a : Ref sig .tc) : Buf (Elt Ideal) ((c : Thread nD τ).loc a) := m ((c : Thread nD τ).loc a)

/-- The aggregated features of the launch's arguments. -/
abbrev feat : Vec Ideal S10000x128 .f32 := val_main_v0 (F := Ideal) (arg m c main_arg0) (arg m c main_arg1)

/-- Region 1 is entered with the aggregated features. -/
theorem V1_feat : V1 m ρ c main_v0_0 = feat m c := (W1_arr m ρ c 2).trans (arr0_2 (V0 m ρ) c)

/-- Region 1 is entered with the adjacency's codes. -/
theorem V1_codes : V1 m ρ c main_v0_1 = codes (arg m c main_arg1) := (W1_arr m ρ c 3).trans (arr0_3 (V0 m ρ) c)

/-- Region 2 is entered with the adjacency's codes. -/
theorem V3_codes : V3 m ρ c main_v0_1 = codes (arg m c main_arg1) :=
  ((W3_of m ρ c main_v0_1 (by decide)).trans (W2_of m ρ c main_v0_1 (by decide))).trans (V1_codes m ρ c)

/-- Region 2 is entered with the features' codes. -/
theorem V3_hq : V3 m ρ c main_v1_0 = k1_pay3 (F := Ideal) (feat m c) :=
  ((W3_of m ρ c main_v1_0 (by decide)).trans (W2_arr m ρ c 1)).trans ((arr1_1 (V1 m ρ) c).trans (congrArg (k1_pay3 (F := Ideal)) (V1_feat m ρ c)))

/-- Region 2 is entered with the column scales. -/
theorem V3_cs : V3 m ρ c main_v1_1 = k1_pay4 (F := Ideal) (feat m c) :=
  ((W3_of m ρ c main_v1_1 (by decide)).trans (W2_arr m ρ c 2)).trans ((arr1_2 (V1 m ρ) c).trans (congrArg (k1_pay4 (F := Ideal)) (V1_feat m ρ c)))

/-- Region 2 is entered with the first layer's weights as launched. -/
theorem V3_w1 : V3 m ρ c main_arg2 = arg m c main_arg2 := W3_args m ρ c main_arg2 (by decide)

/-- Region 2 is entered with the first layer's bias as one row. -/
theorem V3_b1 : V3 m ρ c main_v2 = shapeCast S1x128 (arg m c main_arg3) shapeCasts_S128_S1x128 := by
  show StableHlo.after hostOps2 (W2 m ρ c) (Proc.devRef .tc main_v2) = _
  rw [StableHlo.after_cons, StableHlo.after_cons, StableHlo.after_cons, StableHlo.after_nil, StableHlo.reshape_result_ne (h := by decide),
    StableHlo.reshape_result_ne (h := by decide), StableHlo.reshape_result]
  exact congrArg (fun v => shapeCast S1x128 v shapeCasts_S128_S1x128) (W2_args m ρ c main_arg3 (by decide))

/-- Region 2 is entered with the output weights as one row. -/
theorem V3_w2 : V3 m ρ c main_v3 = shapeCast S1x128 (arg m c main_arg4) shapeCasts_S128_S1x128 := by
  show StableHlo.after hostOps2 (W2 m ρ c) (Proc.devRef .tc main_v3) = _
  rw [StableHlo.after_cons, StableHlo.after_cons, StableHlo.after_cons, StableHlo.after_nil, StableHlo.reshape_result_ne (h := by decide),
    StableHlo.reshape_result, StableHlo.reshape_result_ne (h := by decide)]
  exact congrArg (fun v => shapeCast S1x128 v shapeCasts_S128_S1x128) (W2_args m ρ c main_arg4 (by decide))

/-- Region 2 is entered with the output bias as one element. -/
theorem V3_b2 : V3 m ρ c main_v4 = shapeCast S1x1 (arg m c main_arg5) shapeCasts_S_S1x1 := by
  show StableHlo.after hostOps2 (W2 m ρ c) (Proc.devRef .tc main_v4) = _
  rw [StableHlo.after_cons, StableHlo.after_cons, StableHlo.after_cons, StableHlo.after_nil, StableHlo.reshape_result,
    StableHlo.reshape_result_ne (h := by decide), StableHlo.reshape_result_ne (h := by decide)]
  exact congrArg (fun v => shapeCast S1x1 v shapeCasts_S_S1x1) (W2_args m ρ c main_arg5 (by decide))

/-- The result array of the launch's arguments, before its reshape. -/
abbrev value : Vec Ideal S25x1x400 .f32 :=
  result (codes (arg m c main_arg1)) (k1_pay3 (F := Ideal) (feat m c)) (k1_pay4 (F := Ideal) (feat m c)) (arg m c main_arg2)
    (shapeCast S1x128 (arg m c main_arg3) shapeCasts_S128_S1x128) (shapeCast S1x128 (arg m c main_arg4) shapeCasts_S128_S1x128)
    (shapeCast S1x1 (arg m c main_arg5) shapeCasts_S_S1x1)

/-- The program ends with the result array, reshaped to a vector of rows. -/
theorem W5_value : W5 m ρ c main_v6 = shapeCast S10000 (value m c) shapeCasts_S25x1x400_S10000 := by
  show StableHlo.after hostOps3 (W4 m ρ c) (Proc.devRef .tc main_v6) = _
  rw [StableHlo.after_cons, StableHlo.after_nil, StableHlo.reshape_result]
  refine congrArg (fun v => shapeCast S10000 v shapeCasts_S25x1x400_S10000) ((W4_arr m ρ c 7).trans ((arr2_7 (V3 m ρ) c).trans ?_))
  unfold resultOf
  rw [V3_codes, V3_hq, V3_cs, V3_w1, V3_b1, V3_w2, V3_b2]

/-- The reshaped result array at row `r` of row block `b`: the readout of that row. -/
theorem value_apply (b : Fin 25) (r : Fin 400) :
    W5 m ρ c main_v6 (ix1 (row b r)) = readout (fun d => prod (block (codes (arg m c main_arg1)) b) (k1_pay3 (F := Ideal) (feat m c)) (ix2 r d))
      (k1_pay4 (F := Ideal) (feat m c)) (arg m c main_arg2) (shapeCast S1x128 (arg m c main_arg3) shapeCasts_S128_S1x128)
      (shapeCast S1x128 (arg m c main_arg4) shapeCasts_S128_S1x128) (shapeCast S1x1 (arg m c main_arg5) shapeCasts_S_S1x1) := by
  rw [W5_value]
  refine (shapeCast_apply _ _ (ix1 (row b r)) (ix3 b (0 : Fin 1) r) ?_).trans (result_apply _ _ _ _ _ _ _ b 0 r)
  rw [Shape.rowMajor_val_one, Shape.rowMajor_val_three]
  show (b.val * 1 + 0) * 400 + r.val = b.val * 400 + r.val
  omega

end Cert.Proof.K

end
-- ==== Proof.Equation.lean ====
/- The equation: on a row the mask selects, the kernel's readout of the row is the reference's result. -/
module

public import proofs.«01_k».proof.Proof.Mask
public import proofs.«01_k».proof.Proof.Value

@[expose] public section

set_option maxRecDepth 16384

noncomputable section

namespace Cert.Proof.K

open Cert.KernelIdeal Cert.KernelIdeal.Gen
open Idealize.ShloMosaic Idealize.ShloMosaic.TcCoe
open Cert.ReferenceIdeal.Read

/-- The kernel's dimension numbers of the integer product. -/
abbrev idot : DotDims S400x10000 S10000x128 S400x128 := dot_S400x10000_S10000x128_S400x128_1_0_0_1_n_n

/-- A column of the contracted axis as a contraction index. -/
abbrev kidx (k : Fin 10000) : idot.contr.Idx := (ValueIdx.contrEquiv1 idot 10000 rfl rfl).symm k

/-- The left operand's index in the integer product: the row and the contracted column. -/
theorem lhsIdx_idot (r : Fin 400) (d : Fin 128) (k : Fin 10000) : idot.lhsIdx (ix2 r d) (kidx k) = ix2 r k := by
  have hk := ValueIdx.contrEquiv1_symm_val idot 10000 rfl rfl k
  funext a
  apply Fin.ext
  match a with
  | ⟨0, _⟩ =>
    show (idot.lhsIdx (ix2 r d) (kidx k) 0).val = r.val
    unfold DotDims.lhsIdx
    rw [dif_neg (show ¬(0 : Fin S400x10000.rank) ∈ idot.lhsBatch by decide), dif_pos (show (0 : Fin S400x10000.rank) ∈ idot.lhsNonContracting by decide)]
    rfl
  | ⟨1, _⟩ => exact (idot.lhsIdx_val_of_single rfl _ _).trans hk

/-- The right operand's index in the integer product: the contracted row and the column. -/
theorem rhsIdx_idot (r : Fin 400) (d : Fin 128) (k : Fin 10000) : idot.rhsIdx (ix2 r d) (kidx k) = ix2 k d := by
  have hk := ValueIdx.contrEquiv1_symm_val idot 10000 rfl rfl k
  funext a
  apply Fin.ext
  match a with
  | ⟨0, _⟩ => exact (idot.rhsIdx_val_of_single rfl _ _).trans hk
  | ⟨1, _⟩ =>
    show (idot.rhsIdx (ix2 r d) (kidx k) 1).val = d.val
    unfold DotDims.rhsIdx
    rw [dif_neg (show ¬(1 : Fin S10000x128.rank) ∈ idot.rhsBatch by decide), dif_pos (show (1 : Fin S10000x128.rank) ∈ idot.rhsNonContracting by decide)]
    rfl

/-- The exact integer product at an index, over the columns. -/
theorem dotI8_apply (a : IVec S400x10000 8) (h : IVec S10000x128 8) (r : Fin 400) (d : Fin 128) :
    dotI8 idot a h (ix2 r d) = ∑ k : Fin 10000, (a (ix2 r k)).toInt * (h (ix2 k d)).toInt := by
  unfold dotI8
  rw [← Equiv.sum_comp (ValueIdx.contrEquiv1 idot 10000 rfl rfl).symm]
  exact Finset.sum_congr rfl fun k _ => by rw [lhsIdx_idot, rhsIdx_idot]

/-- The sum of magnitudes of products at an index, over the columns. -/
theorem absDotI8_apply (a : IVec S400x10000 8) (h : IVec S10000x128 8) (r : Fin 400) (d : Fin 128) :
    absDotI8 idot a h (ix2 r d) = ∑ k : Fin 10000, ((a (ix2 r k)).toInt * (h (ix2 k d)).toInt).natAbs := by
  unfold absDotI8
  rw [← Equiv.sum_comp (ValueIdx.contrEquiv1 idot 10000 rfl rfl).symm]
  exact Finset.sum_congr rfl fun k _ => by rw [lhsIdx_idot, rhsIdx_idot]

variable (x : Vec Ideal S10000x128 .f32) (adj : Vec Ideal S10000x10000 .f32)

/-- Within the matrix unit's bound, its product of the codes is the reference's product of the codes. -/
theorem prod_eq (b : Fin 25) (r : Fin 400) (d : Fin 128)
    (hS : ∑ k : Fin 10000, ((acode adj (row b r) k).toInt * (hcode x adj k d).toInt).natAbs ≤ 67108864) :
    (((prod (block (codes adj) b) (k1_pay3 (F := Ideal) (val_main_v0 (F := Ideal) x adj)) (ix2 r d)).toInt : ℝ) : EReal)
      = val_main_v27 (F := Ideal) x adj (ix2 (row b r) d) := by
  have ha : ∀ k, block (codes adj) b (ix2 r k) = acode adj (row b r) k := fun k => codes_apply adj b r k
  have hh : ∀ k, k1_pay3 (F := Ideal) (val_main_v0 (F := Ideal) x adj) (ix2 k d) = hcode x adj k d := fun k => quant_eq x adj k d
  rw [dot_eq, prod, matmulI8_toInt IntMxuNumerics.v5e idot _ _ _ (ix2 r d) rfl ?_, dotI8_apply]
  · exact congrArg (fun z : Int => ((z : ℝ) : EReal)) (Finset.sum_congr rfl fun k _ => by rw [ha, hh])
  · rw [absDotI8_apply]
    refine le_trans (le_of_eq (Finset.sum_congr rfl fun k _ => by rw [ha, hh])) hS

variable (w1 : Vec Ideal S128x128 .f32) (b1 w2 : Vec Ideal S128 .f32) (b2 : Vec Ideal S_ .f32)

/-- A vector as one row, read at an index. -/
theorem row_apply (v : Vec Ideal S128 .f32) (d : Fin 128) : shapeCast S1x128 v shapeCasts_S128_S1x128 (ix2 0 d) = v (ix1 d) := by
  refine (shapeCast_addUnit_apply ![128] _ _ (ix2 0 d)).trans (congrArg v ?_)
  funext a; fin_cases a; rfl

/-- A scalar as one element, read. -/
theorem scalar_apply (v : Vec Ideal S_ .f32) (i : S_.Idx) : shapeCast S1x1 v shapeCasts_S_S1x1 (ix2 0 0) = v i := by
  refine shapeCast_apply _ _ _ i ?_
  rw [Shape.rowMajor_val_two]
  exact Shape.rowMajorPi_zero _ _

/-- The reference's result at a row, as a formula of its product of the codes. -/
theorem ref_apply (n : Fin 10000) (i : S_.Idx) :
    val_main_v41 (F := Ideal) x adj w1 b1 w2 b2 (ix1 n)
      = (∑ j : Fin 128, max ((∑ d : Fin 128, val_main_v27 (F := Ideal) x adj (ix2 n d) * val_main_v29 (F := Ideal) x adj (ix1 d) * w1 (ix2 j d)) + b1 (ix1 j)) 0
          * w2 (ix1 j)) + b2 i := by
  rw [val_main_v41_apply, val_main_v39_apply, val_main_v40_apply]
  have e0 : idx_main_v40 (ix1 n) = i := funext fun a => a.elim0
  rw [e0, Ideal.addf_def]
  refine congrArg (fun s => s + b2 i) (Finset.sum_congr rfl fun j _ => ?_)
  have e1 : lidx_main_v39 (ix1 n) j = ix2 n j := by funext a; fin_cases a <;> rfl
  have e2 : ridx_main_v39 (ix1 n) j = ix1 j := by funext a; fin_cases a; rfl
  rw [e1, e2, val_main_v38_apply, val_main_v37_apply, val_main_v34_apply, val_main_v36_apply, val_main_v35_apply, val_main_call1_v0_apply,
    val_main_call1_cst_apply]
  have e3 : idx_main_v35 (idx_main_v36 (ix2 n j)) = ix1 j := by funext a; fin_cases a; rfl
  rw [e3, Ideal.maximumf_def, Ideal.addf_def, Ideal.ofBits_def, Ideal.ofBits_zero_f32]
  refine congrArg (fun s => max (s + b1 (ix1 j)) 0 * w2 (ix1 j)) (Finset.sum_congr rfl fun d _ => ?_)
  have e4 : lidx_main_v34 (ix2 n j) d = ix2 n d := by funext a; fin_cases a <;> rfl
  have e5 : idx_main_v33 (ridx_main_v34 (ix2 n j) d) = ix2 j d := by funext a; fin_cases a <;> rfl
  have e6 : idx_main_v30 (idx_main_v31 (ix2 n d)) = ix1 d := by funext a; fin_cases a; rfl
  rw [e4, val_main_v33_apply, e5, val_main_v32_apply, val_main_v31_apply, val_main_v30_apply, e6, Ideal.mulf_def]

/-- On a row the mask selects, the kernel's readout is the reference's result. -/
theorem readout_eq (b : Fin 25) (r : Fin 400)
    (h : Cert.On_int_dot_exact.fn (F := Ideal) x adj w1 b1 w2 b2 (ix1 (row b r)) = 1#1) :
    readout (fun d => prod (block (codes adj) b) (k1_pay3 (F := Ideal) (val_main_v0 (F := Ideal) x adj)) (ix2 r d))
        (k1_pay4 (F := Ideal) (val_main_v0 (F := Ideal) x adj)) w1 (shapeCast S1x128 b1 shapeCasts_S128_S1x128)
        (shapeCast S1x128 w2 shapeCasts_S128_S1x128) (shapeCast S1x1 b2 shapeCasts_S_S1x1)
      = val_main_v41 (F := Ideal) x adj w1 b1 w2 b2 (ix1 (row b r)) := by
  have hm := mask_bound x adj w1 b1 w2 b2 (row b r) h
  rw [ref_apply x adj w1 b1 w2 b2 (row b r) (fun a => a.elim0)]
  unfold readout
  rw [scalar_apply b2 (fun a => a.elim0)]
  refine congrArg (fun s => s + b2 _) (Finset.sum_congr rfl fun j _ => ?_)
  rw [row_apply, row_apply]
  refine congrArg (fun s => max (s + b1 (ix1 j)) 0 * w2 (ix1 j)) (Finset.sum_congr rfl fun d _ => ?_)
  rw [prod_eq x adj b r d (hm d), scale_eq]

end Cert.Proof.K

end
-- ==== Proof.lean ====
/- The certificate's claims, assembled: the kernel's frames are the generated ones; the reference's frame and the masked
   equation of the two programs over the extended reals are proved here from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_int_dot_exact
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and, declaring no semaphore, ends with every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every row the mask selects: the kernel's result is the reference's, a function of the arguments both launches hold. -/
theorem algebraic : Cert.algebraic_KernelIdeal_ReferenceIdeal_on_int_dot_exact := by
  intro m ρ m' ρ' _ hagree
  refine ⟨fun c => Cert.ReferenceIdeal.Read.val_main_v41 (F := Ideal) (K.arg m c Cert.KernelIdeal.main_arg0) (K.arg m c Cert.KernelIdeal.main_arg1)
      (K.arg m c Cert.KernelIdeal.main_arg2) (K.arg m c Cert.KernelIdeal.main_arg3) (K.arg m c Cert.KernelIdeal.main_arg4)
      (K.arg m c Cert.KernelIdeal.main_arg5), ?_, ?_⟩
  · refine (θ_run Cert.KernelIdeal.defs _ _).mono (fun r h c => ⟨fun i hi => ?_, (h c).2⟩) (K.run m ρ)
    obtain ⟨n, rfl⟩ : ∃ n : Fin 10000, i = Idealize.ShloMosaic.ix1 n := ⟨i 0, Idealize.ShloMosaic.eq_ix1 i⟩
    obtain ⟨b, w, rfl⟩ := K.exists_row n
    exact ((congrFun (h c).1 _).trans (K.value_apply m ρ c b w)).trans (K.readout_eq _ _ _ _ _ _ b w hi)
  · refine (θ_run Cert.ReferenceIdeal.defs _ _).mono (fun r h c => ⟨fun i _ => ?_, (h c).2⟩) (Cert.ReferenceIdeal.Value.run (F := Ideal) m' ρ')
    obtain ⟨e0, e1, e2, e3, e4, e5⟩ := hagree c
    refine (congrFun ((h c).1.trans (Cert.ReferenceIdeal.Read.val_main_v41_eq _ _ _ _ _ _)) i).trans ?_
    rw [e0, e1, e2, e3, e4, e5]

/-- Everything the certificate claims. -/
theorem claim : Cert.Claim :=
  ⟨Cert.Kernel.Gen.facts, Cert.KernelIdeal.Gen.facts, Cert.ReferenceIdeal.Gen.facts, Cert.On_int_dot_exact.Gen.facts,
    fun m ρ _ => Cert.Kernel.Gen.frame m ρ, fun m ρ _ => Cert.KernelIdeal.Gen.frame m ρ, frame_reference, trivial, algebraic⟩

end Cert.Proof

end
